-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_depth_finite [hPre_depth_finite : Cert.Pre_depth_finite.Facts] (m : (ℓ : Loc Cert.KernelIdeal.nD Cert.KernelIdeal.τ Cert.KernelIdeal.sig) → Buf (Elt Ideal) ℓ) : Prop :=
  ∀ c : Dev Cert.KernelIdeal.nD,
    (Cert.Pre_depth_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_depth_finite [hPre_depth_finite : Cert.Pre_depth_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_depth_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_depth_finite [hKernelIdeal : Cert.KernelIdeal.Facts] [hPre_depth_finite : Cert.Pre_depth_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_depth_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_depth_finite [hReferenceIdeal : Cert.ReferenceIdeal.Facts] [hPre_depth_finite : Cert.Pre_depth_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_depth_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_depth_finite [hKernelIdeal : Cert.KernelIdeal.Facts] [hReferenceIdeal : Cert.ReferenceIdeal.Facts] [hPre_depth_finite : Cert.Pre_depth_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_depth_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_depth_finite : Cert.Pre_depth_finite.Facts),
    quiescent_Kernel (hKernel := hKernel)
    ∧ quiescent_KernelIdeal (hKernelIdeal := hKernelIdeal)
    ∧ quiescent_KernelIdeal_pre_depth_finite (hKernelIdeal := hKernelIdeal) (hPre_depth_finite := hPre_depth_finite)
    ∧ quiescent_ReferenceIdeal (hReferenceIdeal := hReferenceIdeal)
    ∧ quiescent_ReferenceIdeal_pre_depth_finite (hReferenceIdeal := hReferenceIdeal) (hPre_depth_finite := hPre_depth_finite)
    ∧ preserves_Kernel_KernelIdeal
    ∧ algebraic_KernelIdeal_ReferenceIdeal_pre_depth_finite (hKernelIdeal := hKernelIdeal) (hReferenceIdeal := hReferenceIdeal) (hPre_depth_finite := hPre_depth_finite)
-- ==== Pre_depth_finite.lean ====
abbrev S16x256x128x128 : Shape := ⟨4, ![16, 256, 128, 128]⟩
abbrev S16x1x128x128 : Shape := ⟨4, ![16, 1, 128, 128]⟩
abbrev S_ : Shape := ⟨0, ![]⟩

class Facts : Prop where
  bcast_S_S16x1x128x128 : S_.BroadcastsInDim S16x1x128x128 (![] : Fin 0 → Fin S16x1x128x128.rank)

variable [Facts]

def fn {F : FTy → Type} [FloatOps F] (main_arg0 : FVec F S16x256x128x128 .f32) (main_arg1 : FVec F S16x1x128x128 .f32) : IVec S16x1x128x128 1 :=
  let main_v0 : FVec F S16x1x128x128 .f32 := Host.absf main_arg1
  let main_cst : FVec F S_ .f32 := constant S_ .f32 0x7F800000#32
  let main_v1 : FVec F S16x1x128x128 .f32 := broadcastInDim S16x1x128x128 ![] bcast_S_S16x1x128x128 main_cst
  let main_v2 : IVec S16x1x128x128 1 := cmpf .olt main_v0 main_v1
  main_v2
-- ==== Kernel.lean ====
abbrev S16x256x128x128 : Shape := ⟨4, ![16, 256, 128, 128]⟩
abbrev S16x1x128x128 : Shape := ⟨4, ![16, 1, 128, 128]⟩
abbrev S1x1x128x128 : Shape := ⟨4, ![1, 1, 128, 128]⟩
abbrev S1x64x128x128 : Shape := ⟨4, ![1, 64, 128, 128]⟩
abbrev S1x128x128x128 : Shape := ⟨4, ![1, 128, 128, 128]⟩
abbrev S9x128x128 : Shape := ⟨3, ![9, 128, 128]⟩
abbrev S128x128 : Shape := ⟨2, ![128, 128]⟩
abbrev S1x128 : Shape := ⟨2, ![1, 128]⟩
abbrev S127x128 : Shape := ⟨2, ![127, 128]⟩
abbrev S128x1 : Shape := ⟨2, ![128, 1]⟩
abbrev S128x127 : Shape := ⟨2, ![128, 127]⟩
abbrev S1x128x128 : Shape := ⟨3, ![1, 128, 128]⟩
abbrev S1x1x15x128 : Shape := ⟨4, ![1, 1, 15, 128]⟩
abbrev S15x128 : Shape := ⟨2, ![15, 128]⟩
abbrev S16x128 : Shape := ⟨2, ![16, 128]⟩
abbrev S1x1x16x128 : Shape := ⟨4, ![1, 1, 16, 128]⟩
abbrev S1x16x128 : Shape := ⟨3, ![1, 16, 128]⟩

abbrev nBuf : Space → Nat
  | .hbm => 3
  | .vmem => 9
  | .smem => 0
  | _ => 0

abbrev bufTy : (tb : Table) → Fin (tcTables nBuf tb) → BufTy
  | .hbm, ⟨0, _⟩ => ⟨S16x256x128x128, .f32⟩
  | .hbm, ⟨1, _⟩ => ⟨S16x1x128x128, .f32⟩
  | .hbm, ⟨2, _⟩ => ⟨S16x256x128x128, .f32⟩
  | .local _ .vmem, ⟨0, _⟩ => ⟨S1x1x128x128, .f32⟩
  | .local _ .vmem, ⟨1, _⟩ => ⟨S1x1x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x64x128x128, .f32⟩
  | .local _ .vmem, ⟨5, _⟩ => ⟨S1x64x128x128, .f32⟩
  | .local _ .vmem, ⟨6, _⟩ => ⟨S1x128x128x128, .f32⟩
  | .local _ .vmem, ⟨7, _⟩ => ⟨S1x128x128x128, .f32⟩
  | .local _ .vmem, ⟨8, _⟩ => ⟨S9x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x256x128x128 : Shape := ⟨4, ![16, 256, 128, 128]⟩
abbrev S16x1x128x128 : Shape := ⟨4, ![16, 1, 128, 128]⟩
abbrev S_ : Shape := ⟨0, ![]⟩
abbrev S16x256x130x130 : Shape := ⟨4, ![16, 256, 130, 130]⟩
abbrev S16x1x130x130 : Shape := ⟨4, ![16, 1, 130, 130]⟩

abbrev nBuf : Space → Nat
  | .hbm => 123
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x1x128x128, .f32⟩
  | .hbm, ⟨2, _⟩ => ⟨S_, .i32⟩
  | .hbm, ⟨3, _⟩ => ⟨S_, .f32⟩
  | .hbm, ⟨4, _⟩ => ⟨S16x256x130x130, .f32⟩
  | .hbm, ⟨5, _⟩ => ⟨S_, .i32⟩
  | .hbm, ⟨6, _⟩ => ⟨S_, .f32⟩
  | .hbm, ⟨7, _⟩ => ⟨S16x1x130x130, .f32⟩
  | .hbm, ⟨8, _⟩ => ⟨S16x1x128x128, .f32⟩
  | .hbm, ⟨9, _⟩ => ⟨S_, .f32⟩
  | .hbm, ⟨10, _⟩ => ⟨S16x256x128x128, .f32⟩
  | .hbm, ⟨11, _⟩ => ⟨S_, .f32⟩
  | .hbm, ⟨12, _⟩ => ⟨S16x1x128x128, .f32⟩
  | .hbm, ⟨13, _⟩ => ⟨S16x1x128x128, .f32⟩
  | .hbm, ⟨14, _⟩ => ⟨S16x1x128x128, .f32⟩
  | .hbm, ⟨15, _⟩ => ⟨S16x1x128x128, .f32⟩
  | .hbm, ⟨16, _⟩ => ⟨S_, .f32⟩
  | .hbm, ⟨17, _⟩ => ⟨S16x1x128x128, .f32⟩
  | .hbm, ⟨18, _⟩ => ⟨S16x1x128x128, .f32⟩
  | .hbm, ⟨19, _⟩ => ⟨S16x1x128x128, .f32⟩
  | .hbm, ⟨20, _⟩ => ⟨S16x256x128x128, .f32⟩
  | .hbm, ⟨21, _⟩ => ⟨S16x256x128x128, .f32⟩
  | .hbm, ⟨22, _⟩ => ⟨S16x256x128x128, .f32⟩
  | .hbm, ⟨23, _⟩ => ⟨S16x256x128x128, .f32⟩
  | .hbm, ⟨24, _⟩ => ⟨S16x1x128x128, .f32⟩
  | .hbm, ⟨25, _⟩ => ⟨S16x1x128x128, .f32⟩
  | .hbm, ⟨26, _⟩ => ⟨S16x1x128x128, .f32⟩
  | .hbm, ⟨27, _⟩ => ⟨S16x1x128x128, .f32⟩
  | .hbm, ⟨28, _⟩ => ⟨S_, .f32⟩
  | .hbm, ⟨29, _⟩ => ⟨S16x1x128x128, .f32⟩
  | .hbm, ⟨30, _⟩ => ⟨S16x1x128x128, .f32⟩
  | .hbm, ⟨31, _⟩ => ⟨S16x1x128x128, .f32⟩
  | .hbm, ⟨32, _⟩ => ⟨S16x256x128x128, .f32⟩
  | .hbm, ⟨33, _⟩ => ⟨S16x256x128x128, .f32⟩
  | .hbm, ⟨34, _⟩ => ⟨S16x256x128x128, .f32⟩
  | .hbm, ⟨35, _⟩ => ⟨S16x256x128x128, .f32⟩
  | .hbm, ⟨36, _⟩ => ⟨S16x1x128x128, .f32⟩
  | .hbm, ⟨37, _⟩ => ⟨S16x1x128x128, .f32⟩
  | .hbm, ⟨38, _⟩ => ⟨S16x1x128x128, .f32⟩
  | .hbm, ⟨39, _⟩ => ⟨S16x1x128x128, .f32⟩
  | .hbm, ⟨40, _⟩ => ⟨S_, .f32⟩
  | .hbm, ⟨41, _⟩ => ⟨S16x1x128x128, .f32⟩
  | .hbm, ⟨42, _⟩ => ⟨S16x1x128x128, .f32⟩
  | .hbm, ⟨43, _⟩ => ⟨S16x1x128x128, .f32⟩
  | .hbm, ⟨44, _⟩ => ⟨S16x256x128x128, .f32⟩
  | .hbm, ⟨45, _⟩ => ⟨S16x256x128x128, .f32⟩
  | .hbm, ⟨46, _⟩ => ⟨S16x256x128x128, .f32⟩
  | .hbm, ⟨47, _⟩ => ⟨S16x256x128x128, .f32⟩
  | .hbm, ⟨48, _⟩ => ⟨S16x1x128x128, .f32⟩
  | .hbm, ⟨49, _⟩ => ⟨S16x1x128x128, .f32⟩
  | .hbm, ⟨50, _⟩ => ⟨S16x1x128x128, .f32⟩
  | .hbm, ⟨51, _⟩ => ⟨S16x1x128x128, .f32⟩
  | .hbm, ⟨52, _⟩ => ⟨S_, .f32⟩
  | .hbm, ⟨53, _⟩ => ⟨S16x1x128x128, .f32⟩
  | .hbm, ⟨54, _⟩ => ⟨S16x1x128x128, .f32⟩
  | .hbm, ⟨55, _⟩ => ⟨S16x1x128x128, .f32⟩
  | .hbm, ⟨56, _⟩ => ⟨S16x256x128x128, .f32⟩
  | .hbm, ⟨57, _⟩ => ⟨S16x256x128x128, .f32⟩
  | .hbm, ⟨58, _⟩ => ⟨S16x256x128x128, .f32⟩
  | .hbm, ⟨59, _⟩ => ⟨S16x256x128x128, .f32⟩
  | .hbm, ⟨60, _⟩ => ⟨S16x1x128x128, .f32⟩
  | .hbm, ⟨61, _⟩ => ⟨S16x1x128x128, .f32⟩
  | .hbm, ⟨62, _⟩ => ⟨S16x1x128x128, .f32⟩
  | .hbm, ⟨63, _⟩ => ⟨S16x1x128x128, .f32⟩
  | .hbm, ⟨64, _⟩ => ⟨S_, .f32⟩
  | .hbm, ⟨65, _⟩ => ⟨S16x1x128x128, .f32⟩
  | .hbm, ⟨66, _⟩ => ⟨S16x1x128x128, .f32⟩
  | .hbm, ⟨67, _⟩ => ⟨S16x1x128x128, .f32⟩
  | .hbm, ⟨68, _⟩ => ⟨S16x256x128x128, .f32⟩
  | .hbm, ⟨69, _⟩ => ⟨S16x256x128x128, .f32⟩
  | .hbm, ⟨70, _⟩ => ⟨S16x256x128x128, .f32⟩
  | .hbm, ⟨71, _⟩ => ⟨S16x256x128x128, .f32⟩
  | .hbm, ⟨72, _⟩ => ⟨S16x1x128x128, .f32⟩
  | .hbm, ⟨73, _⟩ => ⟨S16x1x128x128, .f32⟩
  | .hbm, ⟨74, _⟩ => ⟨S16x1x128x128, .f32⟩
  | .hbm, ⟨75, _⟩ => ⟨S16x1x128x128, .f32⟩
  | .hbm, ⟨76, _⟩ => ⟨S_, .f32⟩
  | .hbm, ⟨77, _⟩ => ⟨S16x1x128x128, .f32⟩
  | .hbm, ⟨78, _⟩ => ⟨S16x1x128x128, .f32⟩
  | .hbm, ⟨79, _⟩ => ⟨S16x1x128x128, .f32⟩
  | .hbm, ⟨80, _⟩ => ⟨S16x256x128x128, .f32⟩
  | .hbm, ⟨81, _⟩ => ⟨S16x256x128x128, .f32⟩
  | .hbm, ⟨82, _⟩ => ⟨S16x256x128x128, .f32⟩
  | .hbm, ⟨83, _⟩ => ⟨S16x256x128x128, .f32⟩
  | .hbm, ⟨84, _⟩ => ⟨S16x1x128x128, .f32⟩
  | .hbm, ⟨85, _⟩ => ⟨S16x1x128x128, .f32⟩
  | .hbm, ⟨86, _⟩ => ⟨S16x1x128x128, .f32⟩
  | .hbm, ⟨87, _⟩ => ⟨S16x1x128x128, .f32⟩
  | .hbm, ⟨88, _⟩ => ⟨S_, .f32⟩
  | .hbm, ⟨89, _⟩ => ⟨S16x1x128x128, .f32⟩
  | .hbm, ⟨90, _⟩ => ⟨S16x1x128x128, .f32⟩
  | .hbm, ⟨91, _⟩ => ⟨S16x1x128x128, .f32⟩
  | .hbm, ⟨92, _⟩ => ⟨S16x256x128x128, .f32⟩
  | .hbm, ⟨93, _⟩ => ⟨S16x256x128x128, .f32⟩
  | .hbm, ⟨94, _⟩ => ⟨S16x256x128x128, .f32⟩
  | .hbm, ⟨95, _⟩ => ⟨S16x256x128x128, .f32⟩
  | .hbm, ⟨96, _⟩ => ⟨S16x1x128x128, .f32⟩
  | .hbm, ⟨97, _⟩ => ⟨S16x1x128x128, .f32⟩
  | .hbm, ⟨98, _⟩ => ⟨S16x1x128x128, .f32⟩
  | .hbm, ⟨99, _⟩ => ⟨S16x1x128x128, .f32⟩
  | .hbm, ⟨100, _⟩ => ⟨S_, .f32⟩
  | .hbm, ⟨101, _⟩ => ⟨S16x1x128x128, .f32⟩
  | .hbm, ⟨102, _⟩ => ⟨S16x1x128x128, .f32⟩
  | .hbm, ⟨103, _⟩ => ⟨S16x1x128x128, .f32⟩
  | .hbm, ⟨104, _⟩ => ⟨S16x256x128x128, .f32⟩
  | .hbm, ⟨105, _⟩ => ⟨S16x256x128x128, .f32⟩
  | .hbm, ⟨106, _⟩ => ⟨S16x256x128x128, .f32⟩
  | .hbm, ⟨107, _⟩ => ⟨S16x256x128x128, .f32⟩
  | .hbm, ⟨108, _⟩ => ⟨S16x1x128x128, .f32⟩
  | .hbm, ⟨109, _⟩ => ⟨S16x1x128x128, .f32⟩
  | .hbm, ⟨110, _⟩ => ⟨S16x1x128x128, .f32⟩
  | .hbm, ⟨111, _⟩ => ⟨S16x1x128x128, .f32⟩
  | .hbm, ⟨112, _⟩ => ⟨S_, .f32⟩
  | .hbm, ⟨113, _⟩ => ⟨S16x1x128x128, .f32⟩
  | .hbm, ⟨114, _⟩ => ⟨S16x1x128x128, .f32⟩
  | .hbm, ⟨115, _⟩ => ⟨S16x1x128x128, .f32⟩
  | .hbm, ⟨116, _⟩ => ⟨S16x256x128x128, .f32⟩
  | .hbm, ⟨117, _⟩ => ⟨S16x256x128x128, .f32⟩
  | .hbm, ⟨118, _⟩ => ⟨S16x256x128x128, .f32⟩
  | .hbm, ⟨119, _⟩ => ⟨S16x256x128x128, .f32⟩
  | .hbm, ⟨120, _⟩ => ⟨S16x1x128x128, .f32⟩
  | .hbm, ⟨121, _⟩ => ⟨S16x256x128x128, .f32⟩
  | .hbm, ⟨122, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_9 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_10 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩

abbrev nD : Nat := 1
abbrev τ : Topo := Topo.v7x

variable {F : FTy → Type} [FloatOps F]
-- ==== Proof.Pool.lean ====
/- The mathematics, with no program in sight: a plane with a border of zeros, the nine weights at a place, their
   weighted mean, and the same mean computed from weights that were divided by their sum beforehand and moved one
   column so that three products can share a column. -/
module

public import Idealize.ShloMosaic.Lib.Pipeline.ValueKit

@[expose] public section

noncomputable section

namespace Cert.Pool

open Idealize.ShloMosaic

/-- A plane with a border of zeros, one wide: its element at `(i, j)`, counted from the border. -/
def padded (p : Fin 128 → Fin 128 → EReal) (i j : ℕ) : EReal :=
  if h : (1 ≤ i ∧ i - 1 < 128) ∧ (1 ≤ j ∧ j - 1 < 128) then p ⟨i - 1, h.1.2⟩ ⟨j - 1, h.2.2⟩ else 0

/-- What the distance of two depths weighs. -/
def decay (x : EReal) : EReal := Ideal.exp (Ideal.ofBits .f32 0xC104CCCD#32 * FloatOps.absf (F := Ideal) (φ := .f32) x)

/-- The weight that the neighbour `(a, b)` of nine has at `(h, w)`. -/
def wt (d : Fin 128 → Fin 128 → EReal) (h w a b : ℕ) : EReal :=
  decay (padded d (1 + h) (1 + w) - padded d (a + h) (b + w))

/-- The sum of the nine weights. -/
def total (d : Fin 128 → Fin 128 → EReal) (h w : ℕ) : EReal :=
  wt d h w 0 0 + wt d h w 0 1 + wt d h w 0 2 + wt d h w 1 0 + wt d h w 1 1 + wt d h w 1 2 + wt d h w 2 0 + wt d h w 2 1 + wt d h w 2 2

/-- The weighted mean of the nine neighbours. -/
def mean (x d : Fin 128 → Fin 128 → EReal) (h w : ℕ) : EReal :=
  Ideal.div (wt d h w 0 0 * padded x h w + wt d h w 0 1 * padded x h (1 + w) + wt d h w 0 2 * padded x h (2 + w)
    + wt d h w 1 0 * padded x (1 + h) w + wt d h w 1 1 * padded x (1 + h) (1 + w) + wt d h w 1 2 * padded x (1 + h) (2 + w)
    + wt d h w 2 0 * padded x (2 + h) w + wt d h w 2 1 * padded x (2 + h) (1 + w) + wt d h w 2 2 * padded x (2 + h) (2 + w))
    (total d h w)

/-- A weight divided by the sum of the nine. -/
def share (d : Fin 128 → Fin 128 → EReal) (h w a b : ℕ) : EReal := wt d h w a b * Ideal.div 1 (total d h w)

/-- The shares of the neighbour `(a, b)`, moved by one column against `b`: what stands at column `q` belongs to the
    column `q + 1 - b`, and is zero where there is none. -/
def moved (d : Fin 128 → Fin 128 → EReal) (a b h q : ℕ) : EReal :=
  if b ≤ q + 1 ∧ q + 1 - b < 128 then share d h (q + 1 - b) a b else 0

/-- The products of one column of the three rows, summed. -/
def column (u : ℕ → ℕ → ℕ → ℕ → EReal) (x : Fin 128 → Fin 128 → EReal) (b h q : ℕ) : EReal :=
  u 0 b h q * padded x h (1 + q) + u 1 b h q * padded x (1 + h) (1 + q) + u 2 b h q * padded x (2 + h) (1 + q)

/-- The three columns, each turned to the place it is wanted at, summed. -/
def turned (u : ℕ → ℕ → ℕ → ℕ → EReal) (x : Fin 128 → Fin 128 → EReal) (h w : ℕ) : EReal :=
  column u x 0 h ((w + 127) % 128) + column u x 1 h w + column u x 2 h ((w + 1) % 128)

/-- The padding left of a plane is zero. -/
theorem padded_left (p : Fin 128 → Fin 128 → EReal) (i : ℕ) : padded p i 0 = 0 := by simp [padded]

/-- The padding right of a plane is zero. -/
theorem padded_right (p : Fin 128 → Fin 128 → EReal) (i : ℕ) : padded p i 129 = 0 := by simp [padded]

/-- A moved share times the element of its column is the share times the neighbour: at the edge both are zero. -/
theorem moved_mul (x d : Fin 128 → Fin 128 → EReal) (a b h w i : ℕ) (hb : b ≤ 2) (hw : w < 128) :
    moved d a b h ((w + b + 127) % 128) * padded x i (1 + (w + b + 127) % 128) = share d h w a b * padded x i (b + w) := by
  by_cases h0 : w + b = 0
  · obtain ⟨rfl, rfl⟩ : w = 0 ∧ b = 0 := by omega
    simp [moved, padded_left]
  · by_cases h1 : w + b = 129
    · obtain ⟨rfl, rfl⟩ : w = 127 ∧ b = 2 := by omega
      simp [moved, padded_right]
    · have e : (w + b + 127) % 128 = w + b - 1 := by omega
      rw [e, moved, if_pos (by omega), show w + b - 1 + 1 - b = w by omega, show 1 + (w + b - 1) = b + w by omega]

/-- Every weight is a positive real number when the depths are real. -/
theorem wt_real {d : Fin 128 → Fin 128 → EReal} (hd : ∀ h w, ∃ r : ℝ, d h w = r) (h w a b : ℕ) :
    ∃ r : ℝ, 0 < r ∧ wt d h w a b = r := by
  have hp : ∀ i j, ∃ r : ℝ, padded d i j = r := by
    intro i j
    unfold padded
    split
    · exact hd _ _
    · exact ⟨0, rfl⟩
  obtain ⟨p, ep⟩ := hp (1 + h) (1 + w)
  obtain ⟨q, eq⟩ := hp (a + h) (b + w)
  obtain ⟨k, ek⟩ : ∃ k : ℝ, Ideal.ofBits .f32 0xC104CCCD#32 = k := ⟨_, by simp [Ideal.ofBits, Ideal.ieee, -EReal.coe_mul]; rfl⟩
  refine ⟨Real.exp (k * max (p - q) (-(p - q))), Real.exp_pos _, ?_⟩
  unfold wt decay
  rw [ep, eq, ek]
  have : FloatOps.absf (F := Ideal) (φ := .f32) ((p : EReal) - (q : EReal)) = ((max (p - q) (-(p - q)) : ℝ) : EReal) := by
    show max ((p : EReal) - (q : EReal)) (-((p : EReal) - (q : EReal))) = _
    rw [← EReal.coe_sub, ← EReal.coe_neg]
    exact (EReal.coe_strictMono.monotone.map_max).symm
  rw [this, ← EReal.coe_mul, Ideal.exp_coe]

/-- The two computations of the mean agree when the depths are real. -/
theorem turned_eq_mean {x d : Fin 128 → Fin 128 → EReal} (hd : ∀ h w, ∃ r : ℝ, d h w = r) (h w : ℕ) (hw : w < 128) :
    turned (moved d) x h w = mean x d h w := by
  have e0 : (w + 127) % 128 = (w + 0 + 127) % 128 := rfl
  have e1 : (w + 1) % 128 = (w + 2 + 127) % 128 := by omega
  have e2 : w = (w + 1 + 127) % 128 := by omega
  have key : ∀ b, b ≤ 2 → column (moved d) x b h ((w + b + 127) % 128)
      = share d h w 0 b * padded x h (b + w) + share d h w 1 b * padded x (1 + h) (b + w) + share d h w 2 b * padded x (2 + h) (b + w) := by
    intro b hb
    unfold column
    rw [moved_mul x d 0 b h w h hb hw, moved_mul x d 1 b h w (1 + h) hb hw, moved_mul x d 2 b h w (2 + h) hb hw]
  have k1 := key 1 (by omega)
  rw [← e2] at k1
  unfold turned
  rw [e0, e1, key 0 (by omega), key 2 (by omega), k1]
  obtain ⟨r00, p00, q00⟩ := wt_real hd h w 0 0
  obtain ⟨r01, p01, q01⟩ := wt_real hd h w 0 1
  obtain ⟨r02, p02, q02⟩ := wt_real hd h w 0 2
  obtain ⟨r10, p10, q10⟩ := wt_real hd h w 1 0
  obtain ⟨r11, p11, q11⟩ := wt_real hd h w 1 1
  obtain ⟨r12, p12, q12⟩ := wt_real hd h w 1 2
  obtain ⟨r20, p20, q20⟩ := wt_real hd h w 2 0
  obtain ⟨r21, p21, q21⟩ := wt_real hd h w 2 1
  obtain ⟨r22, p22, q22⟩ := wt_real hd h w 2 2
  have ht : total d h w = ((r00 + r01 + r02 + r10 + r11 + r12 + r20 + r21 + r22 : ℝ) : EReal) := by
    unfold total
    rw [q00, q01, q02, q10, q11, q12, q20, q21, q22]
    simp only [EReal.coe_add]
  have hpos : 0 < r00 + r01 + r02 + r10 + r11 + r12 + r20 + r21 + r22 := by positivity
  unfold mean share
  rw [ht, Ideal.div_coe hpos.ne', Ideal.div_coe hpos.ne', one_mul]
  generalize hc : ((1 / (r00 + r01 + r02 + r10 + r11 + r12 + r20 + r21 + r22) : ℝ) : EReal) = c
  have hc0 : 0 ≤ c := by rw [← hc]; exact EReal.coe_nonneg.mpr (by positivity)
  have hct : c ≠ ⊤ := by rw [← hc]; exact EReal.coe_ne_top _
  simp only [EReal.right_distrib_of_nonneg_of_ne_top hc0 hct, mul_right_comm _ c, Nat.zero_add]
  abel

end Cert.Pool

end
-- ==== Proof.Tile.lean ====
/- What one store of the body holds, over the rows it read: three rows of the image around it and the nine rows of the scratch. -/
module

public import proofs.«01_k».proof.Proof.Gen.KernelIdeal.Skeleton
public import proofs.«01_k».proof.Proof.Pool
public import Idealize.ShloMosaic.Lib.Pipeline.ReadBack

@[expose] public section
set_option maxRecDepth 16384
noncomputable section
open Idealize.ShloMosaic Idealize.ShloMosaic.TcCoe Idealize.SL.Sem
namespace Cert.KernelIdeal.Value
open Cert.KernelIdeal Cert.KernelIdeal.Gen Cert.Pool

/-- The scratch's nine planes as the weights of the nine neighbours. -/
def held (S : FVec Ideal S9x128x128 .f32) (a b h q : ℕ) : EReal :=
  S (ix3 ⟨(3 * a + b) % 9, Nat.mod_lt _ (by omega)⟩ ⟨h % 128, Nat.mod_lt _ (by omega)⟩ ⟨q % 128, Nat.mod_lt _ (by omega)⟩)

/-- The products of three rows of the image with three rows of weights, summed. -/
def col (xm x0 xp wm w0 wp : FVec Ideal S16x128 .f32) : FVec Ideal S16x128 .f32 :=
  addf (addf (mulf wm xm) (mulf w0 x0)) (mulf wp xp)

/-- The three columns' sums, turned and added: what one store holds. -/
def tile (xm x0 xp w0 w1 w2 w3 w4 w5 w6 w7 w8 : FVec Ideal S16x128 .f32) : FVec Ideal S1x1x16x128 .f32 :=
  shapeCast S1x1x16x128 (addf (addf (dynamicRotate 1 1#32 none (col xm x0 xp w0 w3 w6) rotates_S16x128_d1) (col xm x0 xp w1 w4 w7))
    (dynamicRotate 1 127#32 none (col xm x0 xp w2 w5 w8) rotates_S16x128_d1)) shapeCasts_S16x128_S1x1x16x128

/-- An element of a tile is the sum of the three turned columns. -/
theorem tile_at (S : FVec Ideal S9x128x128 .f32) (X : Fin 128 → Fin 128 → EReal) (h : ℕ) (hh : h + 16 ≤ 128)
    (xm x0 xp w0 w1 w2 w3 w4 w5 w6 w7 w8 : FVec Ideal S16x128 .f32)
    (hm : ∀ (r : Fin 16) (q : Fin 128), xm (ix2 r q) = padded X (h + r) (1 + q))
    (h0 : ∀ (r : Fin 16) (q : Fin 128), x0 (ix2 r q) = padded X (1 + (h + r)) (1 + q))
    (hp : ∀ (r : Fin 16) (q : Fin 128), xp (ix2 r q) = padded X (2 + (h + r)) (1 + q))
    (e0 : ∀ (r : Fin 16) (q : Fin 128), w0 (ix2 r q) = held S 0 0 (h + r) q)
    (e1 : ∀ (r : Fin 16) (q : Fin 128), w1 (ix2 r q) = held S 0 1 (h + r) q)
    (e2 : ∀ (r : Fin 16) (q : Fin 128), w2 (ix2 r q) = held S 0 2 (h + r) q)
    (e3 : ∀ (r : Fin 16) (q : Fin 128), w3 (ix2 r q) = held S 1 0 (h + r) q)
    (e4 : ∀ (r : Fin 16) (q : Fin 128), w4 (ix2 r q) = held S 1 1 (h + r) q)
    (e5 : ∀ (r : Fin 16) (q : Fin 128), w5 (ix2 r q) = held S 1 2 (h + r) q)
    (e6 : ∀ (r : Fin 16) (q : Fin 128), w6 (ix2 r q) = held S 2 0 (h + r) q)
    (e7 : ∀ (r : Fin 16) (q : Fin 128), w7 (ix2 r q) = held S 2 1 (h + r) q)
    (e8 : ∀ (r : Fin 16) (q : Fin 128), w8 (ix2 r q) = held S 2 2 (h + r) q)
    (a : Fin 16) (b : Fin 128) :
    tile xm x0 xp w0 w1 w2 w3 w4 w5 w6 w7 w8 (ix4 0 0 a b) = turned (held S) X (h + a) b := by
  pointwise [tile, col]
  simp only [hm, h0, hp, e0, e1, e2, e3, e4, e5, e6, e7, e8, turned, column]
  have l : ((b : ℕ) + 128 - 1) % 128 = ((b : ℕ) + 127) % 128 := by omega
  have u : ((b : ℕ) + 128 - 127) % 128 = ((b : ℕ) + 1) % 128 := by omega
  rw [l, u]

/-- Rows of the scratch, read. -/
theorem weights_row (S : FVec Ideal S9x128x128 .f32) (rd : ∀ B : LoadRect S9x128x128, B.shape.Idx → EReal) (hrd : ∀ B j, rd B j = S (B.idx j))
    (a b h : ℕ) (hh : h + 16 ≤ 128) (k : ℕ) (ek : k = (3 * a + b) % 9) (inb : ∀ i, (![k, h, 0] : Fin 3 → ℕ) i + S1x16x128.size i ≤ S9x128x128.size i)
    (r : Fin 16) (q : Fin 128) :
    shapeCast S16x128 (rd (Rect.unit (s := S9x128x128) ![k, h, 0] S1x16x128.size inb).toLoadRect : FVec Ideal S1x16x128 .f32) shapeCasts_S1x16x128_S16x128 (ix2 r q) = held S a b (h + r) q := by
  have e : ∀ v : FVec Ideal S1x16x128 .f32, shapeCast S16x128 v shapeCasts_S1x16x128_S16x128 (ix2 r q) = v (ix3 0 r q) := by
    intro v; pointwise
  rw [e, hrd, held]
  refine congrArg S (funext fun i => Fin.ext ?_)
  have hr := r.isLt
  have hq := q.isLt
  subst ek
  fin_cases i
  · simp
  · simp; omega
  · simp; omega

/-- An element of the image read, as an element of the bordered plane. -/
theorem image_at (x : FVec Ideal S1x64x128x128 .f32) (c s : ℕ) (hc : c < 64) {n : ℕ} (inb : ∀ i, (![0, c, s, 0] : Fin 4 → ℕ) i + (![1, 1, n, 128] : Fin 4 → ℕ) i ≤ S1x64x128x128.size i)
    (r : Fin n) (q : Fin 128) (p : ℕ) (hp : p = 1 + (s + r)) :
    x ((Rect.unit (s := S1x64x128x128) ![0, c, s, 0] ![1, 1, n, 128] inb).toLoadRect.idx (ix4 0 0 r q)) =
      padded (fun a b => x (ix4 0 ⟨c, hc⟩ a b)) p (1 + q) := by
  have hq := q.isLt
  have hr := r.isLt
  have hs : s + n ≤ 128 := inb 2
  subst hp
  rw [padded, dif_pos ⟨⟨by omega, by omega⟩, by omega, by omega⟩]
  refine congrArg x (funext fun i => Fin.ext ?_)
  fin_cases i
  · simp
  · simp
  · simp
  · simp

/-- Whole rows of the image. -/
def rows (rd : ∀ B : LoadRect S1x64x128x128, B.shape.Idx → EReal) (c s : ℕ) (inb : ∀ i, (![0, c, s, 0] : Fin 4 → ℕ) i + S1x1x16x128.size i ≤ S1x64x128x128.size i) : FVec Ideal S16x128 .f32 :=
  shapeCast S16x128 (rd (Rect.unit (s := S1x64x128x128) ![0, c, s, 0] S1x1x16x128.size inb).toLoadRect : FVec Ideal S1x1x16x128 .f32) shapeCasts_S1x1x16x128_S16x128

/-- The zero row above the rows at the top edge. -/
def rowsTop (rd : ∀ B : LoadRect S1x64x128x128, B.shape.Idx → EReal) (c s : ℕ) (inb : ∀ i, (![0, c, s, 0] : Fin 4 → ℕ) i + S1x1x15x128.size i ≤ S1x64x128x128.size i) : FVec Ideal S16x128 .f32 :=
  concatenate S16x128 0 [⟨S1x128, k0_pay28 (F := Ideal)⟩, ⟨S15x128, shapeCast S15x128 (rd (Rect.unit (s := S1x64x128x128) ![0, c, s, 0] S1x1x15x128.size inb).toLoadRect : FVec Ideal S1x1x15x128 .f32) shapeCasts_S1x1x15x128_S15x128⟩] concatenates_S1x128_S15x128_S16x128_d0

/-- The zero row below the rows at the bottom edge. -/
def rowsBot (rd : ∀ B : LoadRect S1x64x128x128, B.shape.Idx → EReal) (c s : ℕ) (inb : ∀ i, (![0, c, s, 0] : Fin 4 → ℕ) i + S1x1x15x128.size i ≤ S1x64x128x128.size i) : FVec Ideal S16x128 .f32 :=
  concatenate S16x128 0 [⟨S15x128, shapeCast S15x128 (rd (Rect.unit (s := S1x64x128x128) ![0, c, s, 0] S1x1x15x128.size inb).toLoadRect : FVec Ideal S1x1x15x128 .f32) shapeCasts_S1x1x15x128_S15x128⟩, ⟨S1x128, k0_pay28 (F := Ideal)⟩] concatenates_S15x128_S1x128_S16x128_d0

section
variable (x : FVec Ideal S1x64x128x128 .f32) (rd : ∀ B : LoadRect S1x64x128x128, B.shape.Idx → EReal) (hrd : ∀ B j, rd B j = x (B.idx j)) (c : ℕ) (hc : c < 64)
include hrd

/-- Sixteen rows inside the plane, read from row `s`. -/
theorem rows_at (s : ℕ) (inb) (p : ℕ) (r : Fin 16) (q : Fin 128) (hp : p = 1 + (s + r)) :
    rows rd c s inb (ix2 r q) = padded (fun a b => x (ix4 0 ⟨c, hc⟩ a b)) p (1 + q) := by
  have e : ∀ v : FVec Ideal S1x1x16x128 .f32, shapeCast S16x128 v shapeCasts_S1x1x16x128_S16x128 (ix2 r q) = v (ix4 0 0 r q) := by
    intro v; pointwise
  rw [rows, e, hrd]
  exact image_at x c s hc inb r q p hp

/-- The rows above the first tile: a row of zeros, then the first fifteen. -/
theorem rowsTop_at (inb) (r : Fin 16) (q : Fin 128) :
    rowsTop rd c 0 inb (ix2 r q) = padded (fun a b => x (ix4 0 ⟨c, hc⟩ a b)) r (1 + q) := by
  have hr := r.isLt
  have e : ∀ v : FVec Ideal S1x1x15x128 .f32, concatenate S16x128 0 [⟨S1x128, k0_pay28 (F := Ideal)⟩, ⟨S15x128, shapeCast S15x128 v shapeCasts_S1x1x15x128_S15x128⟩] concatenates_S1x128_S15x128_S16x128_d0 (ix2 r q)
      = if h : (r : ℕ) < 1 then 0 else v (ix4 0 0 ⟨r - 1, by omega⟩ q) := by
    intro v; pointwise [k0_pay28]
  rw [rowsTop, e]
  by_cases h : (r : ℕ) < 1
  · rw [dif_pos h, padded, dif_neg (by omega)]
  · rw [dif_neg h, hrd]
    exact image_at x c 0 hc inb ⟨r - 1, by omega⟩ q r (by simp; omega)

/-- The rows below the last tile: the last fifteen, then a row of zeros. -/
theorem rowsBot_at (inb) (r : Fin 16) (q : Fin 128) :
    rowsBot rd c 113 inb (ix2 r q) = padded (fun a b => x (ix4 0 ⟨c, hc⟩ a b)) (114 + r) (1 + q) := by
  have hr := r.isLt
  have e : ∀ v : FVec Ideal S1x1x15x128 .f32, concatenate S16x128 0 [⟨S15x128, shapeCast S15x128 v shapeCasts_S1x1x15x128_S15x128⟩, ⟨S1x128, k0_pay28 (F := Ideal)⟩] concatenates_S15x128_S1x128_S16x128_d0 (ix2 r q)
      = if h : (r : ℕ) < 15 then v (ix4 0 0 ⟨r, h⟩ q) else 0 := by
    intro v; pointwise [k0_pay28]
  rw [rowsBot, e]
  by_cases h : (r : ℕ) < 15
  · rw [dif_pos h, hrd]
    exact image_at x c 113 hc inb ⟨r, h⟩ q _ (by simp; omega)
  · rw [dif_neg h, padded, dif_neg (by omega)]

end

/-- Rows of the scratch. -/
def weights (rw : ∀ B : LoadRect S9x128x128, B.shape.Idx → EReal) (k h : ℕ) (inb : ∀ i, (![k, h, 0] : Fin 3 → ℕ) i + S1x16x128.size i ≤ S9x128x128.size i) : FVec Ideal S16x128 .f32 :=
  shapeCast S16x128 (rw (Rect.unit (s := S9x128x128) ![k, h, 0] S1x16x128.size inb).toLoadRect : FVec Ideal S1x16x128 .f32) shapeCasts_S1x16x128_S16x128

/-- A tile of weights lies inside the scratch. -/
theorem weights_inb (k h : ℕ) (hk : k < 9) (hh : h + 16 ≤ 128) : ∀ i, (![k, h, 0] : Fin 3 → ℕ) i + S1x16x128.size i ≤ S9x128x128.size i := by
  intro i; fin_cases i
  · simp; omega
  · simp; omega
  · simp

/-- Sixteen rows of a channel lie inside its block. -/
theorem rows_inb (c s : ℕ) (hc : c < 64) (hs : s + 16 ≤ 128) : ∀ i, (![0, c, s, 0] : Fin 4 → ℕ) i + S1x1x16x128.size i ≤ S1x64x128x128.size i := by
  intro i; fin_cases i
  · simp
  · simp; omega
  · simp; omega
  · simp

/-- Fifteen rows of a channel lie inside its block. -/
theorem edge_inb (c s : ℕ) (hc : c < 64) (hs : s + 15 ≤ 128) : ∀ i, (![0, c, s, 0] : Fin 4 → ℕ) i + S1x1x15x128.size i ≤ S1x64x128x128.size i := by
  intro i; fin_cases i
  · simp
  · simp; omega
  · simp; omega
  · simp

/-- A tile over its three rows of the image, the weights read at its own rows. -/
def weighed (rw : ∀ B : LoadRect S9x128x128, B.shape.Idx → EReal) (h : ℕ) (hh : h + 16 ≤ 128) (xm x0 xp : FVec Ideal S16x128 .f32) : FVec Ideal S1x1x16x128 .f32 :=
  tile xm x0 xp (weights rw 0 h (weights_inb 0 h (by omega) hh)) (weights rw 1 h (weights_inb 1 h (by omega) hh)) (weights rw 2 h (weights_inb 2 h (by omega) hh))
    (weights rw 3 h (weights_inb 3 h (by omega) hh)) (weights rw 4 h (weights_inb 4 h (by omega) hh)) (weights rw 5 h (weights_inb 5 h (by omega) hh))
    (weights rw 6 h (weights_inb 6 h (by omega) hh)) (weights rw 7 h (weights_inb 7 h (by omega) hh)) (weights rw 8 h (weights_inb 8 h (by omega) hh))

/-- A tile of weights, read from the scratch. -/
theorem weighed_at (S : FVec Ideal S9x128x128 .f32) (rw : ∀ B : LoadRect S9x128x128, B.shape.Idx → EReal) (hrw : ∀ B j, rw B j = S (B.idx j))
    (X : Fin 128 → Fin 128 → EReal) (h : ℕ) (hh : h + 16 ≤ 128) (xm x0 xp : FVec Ideal S16x128 .f32)
    (hm : ∀ (r : Fin 16) (q : Fin 128), xm (ix2 r q) = padded X (h + r) (1 + q))
    (h0 : ∀ (r : Fin 16) (q : Fin 128), x0 (ix2 r q) = padded X (1 + (h + r)) (1 + q))
    (hp : ∀ (r : Fin 16) (q : Fin 128), xp (ix2 r q) = padded X (2 + (h + r)) (1 + q)) (a : Fin 16) (b : Fin 128) :
    weighed rw h hh xm x0 xp (ix4 0 0 a b) = turned (held S) X (h + a) b :=
  tile_at S X h hh xm x0 xp _ _ _ _ _ _ _ _ _ hm h0 hp
    (weights_row S rw hrw 0 0 h hh 0 rfl _) (weights_row S rw hrw 0 1 h hh 1 rfl _) (weights_row S rw hrw 0 2 h hh 2 rfl _)
    (weights_row S rw hrw 1 0 h hh 3 rfl _) (weights_row S rw hrw 1 1 h hh 4 rfl _) (weights_row S rw hrw 1 2 h hh 5 rfl _)
    (weights_row S rw hrw 2 0 h hh 6 rfl _) (weights_row S rw hrw 2 1 h hh 7 rfl _) (weights_row S rw hrw 2 2 h hh 8 rfl _) a b

/-- The whole block that the stores fill: each element is the turned sum of its own plane. -/
def filled (S : FVec Ideal S9x128x128 .f32) (plane : ℕ → Fin 128 → Fin 128 → EReal) (y : S1x128x128x128.Idx) : EReal :=
  turned (held S) (plane (y 1)) (y 2) (y 3)

section
variable (x : FVec Ideal S1x64x128x128 .f32) (rd : ∀ B : LoadRect S1x64x128x128, B.shape.Idx → EReal) (hrd : ∀ B j, rd B j = x (B.idx j)) (c : ℕ) (hc : c < 64)
  (S : FVec Ideal S9x128x128 .f32) (rw : ∀ B : LoadRect S9x128x128, B.shape.Idx → EReal) (hrw : ∀ B j, rw B j = S (B.idx j))
  (plane : ℕ → Fin 128 → Fin 128 → EReal) (o : ℕ) (hx : ∀ c (hc : c < 64), plane (c + o) = fun a b => x (ix4 0 ⟨c, hc⟩ a b))
include hrd hrw hx

/-- A store of such a tile is a block of `filled`. -/
theorem piece_of (h : ℕ) (hh : h + 16 ≤ 128) (inb : ∀ i, (![0, c + o, h, 0] : Fin 4 → ℕ) i + (![1, 1, 16, 128] : Fin 4 → ℕ) i ≤ S1x128x128x128.size i) (xm x0 xp : FVec Ideal S16x128 .f32)
    (hm : ∀ (r : Fin 16) (q : Fin 128), xm (ix2 r q) = padded (fun a b => x (ix4 0 ⟨c, hc⟩ a b)) (h + r) (1 + q))
    (h0 : ∀ (r : Fin 16) (q : Fin 128), x0 (ix2 r q) = padded (fun a b => x (ix4 0 ⟨c, hc⟩ a b)) (1 + (h + r)) (1 + q))
    (hp : ∀ (r : Fin 16) (q : Fin 128), xp (ix2 r q) = padded (fun a b => x (ix4 0 ⟨c, hc⟩ a b)) (2 + (h + r)) (1 + q))
    (L : List (View.Piece (Elt Ideal) S1x128x128x128 .f32)) (hL : View.PiecesOf (filled S plane) L) :
    View.PiecesOf (filled S plane) (⟨Rect.unit ![0, c + o, h, 0] ![1, 1, 16, 128] inb, weighed rw h hh xm x0 xp⟩ :: L) := by
  refine ⟨fun y => ?_, hL⟩
  have ey : y = (ix4 0 0 (y 2 : Fin 16) (y 3 : Fin 128) : S1x1x16x128.Idx) := by
    funext i
    fin_cases i
    · exact Subsingleton.elim (α := Fin 1) _ _
    · exact Subsingleton.elim (α := Fin 1) _ _
    · rfl
    · rfl
  have e1 : ((Rect.unit (s := S1x128x128x128) ![0, c + o, h, 0] ![1, 1, 16, 128] inb).emb y 1 : ℕ) = c + o := by
    have := (y 1 : Fin 1).isLt
    refine (Rect.idx_unit_val (s := S1x128x128x128) ![0, c + o, h, 0] ![1, 1, 16, 128] inb y 1).trans ?_
    show c + o + (y 1 : ℕ) = c + o
    have : (y 1 : ℕ) < 1 := (y 1).isLt
    omega
  have e2 : ((Rect.unit (s := S1x128x128x128) ![0, c + o, h, 0] ![1, 1, 16, 128] inb).emb y 2 : ℕ) = h + (y 2 : ℕ) :=
    Rect.idx_unit_val (s := S1x128x128x128) ![0, c + o, h, 0] ![1, 1, 16, 128] inb y 2
  have e3 : ((Rect.unit (s := S1x128x128x128) ![0, c + o, h, 0] ![1, 1, 16, 128] inb).emb y 3 : ℕ) = (y 3 : ℕ) :=
    (Rect.idx_unit_val (s := S1x128x128x128) ![0, c + o, h, 0] ![1, 1, 16, 128] inb y 3).trans (Nat.zero_add _)
  have key := weighed_at S rw hrw _ h hh xm x0 xp hm h0 hp (y 2 : Fin 16) (y 3 : Fin 128)
  rw [← hx c hc] at key
  show weighed rw h hh xm x0 xp y = turned (held S) (plane _) _ _
  rw [e1, e2, e3, ← key]
  exact congrArg _ ey

/-- A store of a tile that touches neither the first nor the last row. -/
theorem piece_mid (h : ℕ) (hh : h + 17 ≤ 128) (hh' : 1 ≤ h) (inb : ∀ i, (![0, c + o, h, 0] : Fin 4 → ℕ) i + (![1, 1, 16, 128] : Fin 4 → ℕ) i ≤ S1x128x128x128.size i)
    (L : List (View.Piece (Elt Ideal) S1x128x128x128 .f32)) (hL : View.PiecesOf (filled S plane) L) :
    View.PiecesOf (filled S plane) (⟨Rect.unit ![0, c + o, h, 0] ![1, 1, 16, 128] inb, weighed rw h (by omega) (rows rd c (h - 1) (rows_inb c (h - 1) hc (by omega)))
      (rows rd c h (rows_inb c h hc (by omega))) (rows rd c (h + 1) (rows_inb c (h + 1) hc (by omega)))⟩ :: L) :=
  piece_of x rd hrd c hc S rw hrw plane o hx h (by omega) inb _ _ _
    (fun r q => rows_at x rd hrd c hc _ _ _ r q (by omega)) (fun r q => rows_at x rd hrd c hc _ _ _ r q (by omega))
    (fun r q => rows_at x rd hrd c hc _ _ _ r q (by omega)) L hL

/-- A store of the tile at the top of a plane. -/
theorem piece_top (inb : ∀ i, (![0, c + o, 0, 0] : Fin 4 → ℕ) i + (![1, 1, 16, 128] : Fin 4 → ℕ) i ≤ S1x128x128x128.size i)
    (L : List (View.Piece (Elt Ideal) S1x128x128x128 .f32)) (hL : View.PiecesOf (filled S plane) L) :
    View.PiecesOf (filled S plane) (⟨Rect.unit ![0, c + o, 0, 0] ![1, 1, 16, 128] inb, weighed rw 0 (by omega) (rowsTop rd c 0 (edge_inb c 0 hc (by omega)))
      (rows rd c 0 (rows_inb c 0 hc (by omega))) (rows rd c 1 (rows_inb c 1 hc (by omega)))⟩ :: L) :=
  piece_of x rd hrd c hc S rw hrw plane o hx 0 (by omega) inb _ _ _
    (fun r q => (rowsTop_at x rd hrd c hc _ r q).trans (by rw [Nat.zero_add])) (fun r q => rows_at x rd hrd c hc _ _ _ r q (by omega))
    (fun r q => rows_at x rd hrd c hc _ _ _ r q (by omega)) L hL

/-- A store of the tile at the bottom of a plane. -/
theorem piece_bot (inb : ∀ i, (![0, c + o, 112, 0] : Fin 4 → ℕ) i + (![1, 1, 16, 128] : Fin 4 → ℕ) i ≤ S1x128x128x128.size i)
    (L : List (View.Piece (Elt Ideal) S1x128x128x128 .f32)) (hL : View.PiecesOf (filled S plane) L) :
    View.PiecesOf (filled S plane) (⟨Rect.unit ![0, c + o, 112, 0] ![1, 1, 16, 128] inb, weighed rw 112 (by omega) (rows rd c 111 (rows_inb c 111 hc (by omega)))
      (rows rd c 112 (rows_inb c 112 hc (by omega))) (rowsBot rd c 113 (edge_inb c 113 hc (by omega)))⟩ :: L) :=
  piece_of x rd hrd c hc S rw hrw plane o hx 112 (by omega) inb _ _ _
    (fun r q => rows_at x rd hrd c hc _ _ _ r q (by omega)) (fun r q => rows_at x rd hrd c hc _ _ _ r q (by omega))
    (fun r q => (rowsBot_at x rd hrd c hc _ r q).trans (congrArg (fun p => padded _ p _) (by omega))) L hL

end

/-- A channel's plane: of the first window the lower half of the channels, of the second the upper half. -/
def plane (x1 x2 : FVec Ideal S1x64x128x128 .f32) (c : ℕ) (a b : Fin 128) : EReal :=
  if c < 64 then x1 (ix4 0 ⟨c % 64, Nat.mod_lt _ (by omega)⟩ a b) else x2 (ix4 0 ⟨c % 64, Nat.mod_lt _ (by omega)⟩ a b)

/-- The first 64 channels come from the first image block. -/
theorem plane_a (x1 x2 : FVec Ideal S1x64x128x128 .f32) (c : ℕ) (hc : c < 64) : plane x1 x2 (c + 0) = fun a b => x1 (ix4 0 ⟨c, hc⟩ a b) := by
  funext a b
  rw [plane, if_pos (by omega)]
  exact congrArg (fun k => x1 (ix4 0 k a b)) (Fin.ext (Nat.mod_eq_of_lt hc))

/-- The last 64 channels come from the second image block. -/
theorem plane_b (x1 x2 : FVec Ideal S1x64x128x128 .f32) (c : ℕ) (hc : c < 64) : plane x1 x2 (c + 64) = fun a b => x2 (ix4 0 ⟨c, hc⟩ a b) := by
  funext a b
  rw [plane, if_neg (by omega)]
  exact congrArg (fun k => x2 (ix4 0 k a b)) (Fin.ext (by show (c + 64) % 64 = c; omega))

end Cert.KernelIdeal.Value
end
-- ==== Proof.StoresA.lean ====
/- The stores of a first point, each a block of one array. -/
module

public import proofs.«01_k».proof.Proof.Gen.KernelIdeal.Frame
public import proofs.«01_k».proof.Proof.Tile

@[expose] public section
set_option maxRecDepth 65536
noncomputable section
open Idealize.ShloMosaic Idealize.ShloMosaic.TcCoe Idealize.SL.Sem
namespace Cert.KernelIdeal.Value
open Cert.KernelIdeal Cert.KernelIdeal.Gen Cert.Pool

set_option maxHeartbeats 40000000 in
/-- At a point that fills the scratch first, every store is a block of the array that scratch's weights fill. -/
theorem stores_A (c : Dev nD) (i : grid0.Coords) (arg2 : Memref sig .tc .vmem S1x1x128x128 .f32) (harg2 : arg2.IsWhole) (arg3 : Memref sig .tc .vmem S1x64x128x128 .f32) (harg3 : arg3.IsWhole) (arg4 : Memref sig .tc .vmem S1x64x128x128 .f32) (harg4 : arg4.IsWhole)
    (arg5 : Memref sig .tc .vmem S1x128x128x128 .f32) (harg5 : arg5.IsWhole) (arg6 : Memref sig .tc .vmem S9x128x128 .f32) (harg6 : arg6.IsWhole) (hc0 : cond0_0 i)
    (x0 : Vec Ideal S1x1x128x128 .f32) (x1 x2 : Vec Ideal S1x64x128x128 .f32) :
    View.PiecesOf (filled (View.canon (kernelRun0_A.sl.HS0_9 c arg2 harg2 x0)) (plane x1 x2)) (kernelRun0_A c i arg2 harg2 arg3 harg3 arg4 harg4 arg5 harg5 arg6 harg6 hc0 x0 x1 x2).1 := by
  have hw : ∀ (B : LoadRect S9x128x128) j, arg6.view.readCov (kernelRun0_A.sl.HS0_9 (F := Ideal) c arg2 harg2 x0) B j = View.canon (kernelRun0_A.sl.HS0_9 (F := Ideal) c arg2 harg2 x0) (B.idx j) :=
    fun B j => congrFun (View.readCov_eq_canon' arg6.view _ B) j
  have ha : ∀ (B : LoadRect S1x64x128x128) j, View.readAt (Elt Ideal) arg3.view B (harg3.unread x1) j = x1 (B.idx j) :=
    fun B j => congrFun (harg3.read_unread x1) (B.idx j)
  have hb : ∀ (B : LoadRect S1x64x128x128) j, View.readAt (Elt Ideal) arg4.view B (harg4.unread x2) j = x2 (B.idx j) :=
    fun B j => congrFun (harg4.read_unread x2) (B.idx j)
  have a_bot := fun c hc => piece_bot x1 _ ha c hc _ _ hw (plane x1 x2) 0 (plane_a x1 x2)
  have a_mid := fun c hc => piece_mid x1 _ ha c hc _ _ hw (plane x1 x2) 0 (plane_a x1 x2)
  have a_top := fun c hc => piece_top x1 _ ha c hc _ _ hw (plane x1 x2) 0 (plane_a x1 x2)
  have b_bot := fun c hc => piece_bot x2 _ hb c hc _ _ hw (plane x1 x2) 64 (plane_b x1 x2)
  have b_mid := fun c hc => piece_mid x2 _ hb c hc _ _ hw (plane x1 x2) 64 (plane_b x1 x2)
  have b_top := fun c hc => piece_top x2 _ hb c hc _ _ hw (plane x1 x2) 64 (plane_b x1 x2)
  unfold kernelRun0_A
  dsimp only
  iterate 16
    iterate 4 refine b_bot _ (by decide) _ _ ?_
    iterate 24 refine b_mid _ (by decide) _ (by decide) (by decide) _ _ ?_
    iterate 4 refine b_top _ (by decide) _ _ ?_
  iterate 16
    iterate 4 refine a_bot _ (by decide) _ _ ?_
    iterate 24 refine a_mid _ (by decide) _ (by decide) (by decide) _ _ ?_
    iterate 4 refine a_top _ (by decide) _ _ ?_
  exact trivial
end Cert.KernelIdeal.Value
end
-- ==== Proof.StoresB.lean ====
/- The stores of a carried point, each a block of one array. -/
module

public import proofs.«01_k».proof.Proof.Gen.KernelIdeal.Frame
public import proofs.«01_k».proof.Proof.Tile

@[expose] public section
set_option maxRecDepth 65536
noncomputable section
open Idealize.ShloMosaic Idealize.ShloMosaic.TcCoe Idealize.SL.Sem
namespace Cert.KernelIdeal.Value
open Cert.KernelIdeal Cert.KernelIdeal.Gen Cert.Pool

set_option maxHeartbeats 40000000 in
/-- At a point that carries the scratch `xs0`, every store is a block of the array its weights fill. -/
theorem stores_B (c : Dev nD) (i : grid0.Coords) (arg2 : Memref sig .tc .vmem S1x1x128x128 .f32) (harg2 : arg2.IsWhole) (arg3 : Memref sig .tc .vmem S1x64x128x128 .f32) (harg3 : arg3.IsWhole) (arg4 : Memref sig .tc .vmem S1x64x128x128 .f32) (harg4 : arg4.IsWhole)
    (arg5 : Memref sig .tc .vmem S1x128x128x128 .f32) (harg5 : arg5.IsWhole) (arg6 : Memref sig .tc .vmem S9x128x128 .f32) (harg6 : arg6.IsWhole) (hc0 : ¬cond0_0 i)
    (x0 : Vec Ideal S1x1x128x128 .f32) (x1 x2 : Vec Ideal S1x64x128x128 .f32) (xs0 : Vec Ideal S9x128x128 .f32) :
    View.PiecesOf (filled xs0 (plane x1 x2)) (kernelRun0_B c i arg2 harg2 arg3 harg3 arg4 harg4 arg5 harg5 arg6 harg6 hc0 x0 x1 x2 xs0).1 := by
  have hw : ∀ (B : LoadRect S9x128x128) j, View.readAt (Elt Ideal) arg6.view B (harg6.unread xs0) j = xs0 (B.idx j) :=
    fun B j => congrFun (harg6.read_unread xs0) (B.idx j)
  have ha : ∀ (B : LoadRect S1x64x128x128) j, View.readAt (Elt Ideal) arg3.view B (harg3.unread x1) j = x1 (B.idx j) :=
    fun B j => congrFun (harg3.read_unread x1) (B.idx j)
  have hb : ∀ (B : LoadRect S1x64x128x128) j, View.readAt (Elt Ideal) arg4.view B (harg4.unread x2) j = x2 (B.idx j) :=
    fun B j => congrFun (harg4.read_unread x2) (B.idx j)
  have a_bot := fun c hc => piece_bot x1 _ ha c hc _ _ hw (plane x1 x2) 0 (plane_a x1 x2)
  have a_mid := fun c hc => piece_mid x1 _ ha c hc _ _ hw (plane x1 x2) 0 (plane_a x1 x2)
  have a_top := fun c hc => piece_top x1 _ ha c hc _ _ hw (plane x1 x2) 0 (plane_a x1 x2)
  have b_bot := fun c hc => piece_bot x2 _ hb c hc _ _ hw (plane x1 x2) 64 (plane_b x1 x2)
  have b_mid := fun c hc => piece_mid x2 _ hb c hc _ _ hw (plane x1 x2) 64 (plane_b x1 x2)
  have b_top := fun c hc => piece_top x2 _ hb c hc _ _ hw (plane x1 x2) 64 (plane_b x1 x2)
  unfold kernelRun0_B
  dsimp only
  iterate 16
    iterate 4 refine b_bot _ (by decide) _ _ ?_
    iterate 24 refine b_mid _ (by decide) _ (by decide) (by decide) _ _ ?_
    iterate 4 refine b_top _ (by decide) _ _ ?_
  iterate 16
    iterate 4 refine a_bot _ (by decide) _ _ ?_
    iterate 24 refine a_mid _ (by decide) _ (by decide) (by decide) _ _ ?_
    iterate 4 refine a_top _ (by decide) _ _ ?_
  exact trivial
end Cert.KernelIdeal.Value
end
-- ==== Proof.Weights.lean ====
/- What the body writes into its scratch: the nine weights of a plane of depths, divided by their sum and moved by a column. -/
module

public import proofs.«01_k».proof.Proof.Gen.KernelIdeal
public import proofs.«01_k».proof.Proof.Pool
public import Idealize.ShloMosaic.Lib.Pipeline.ReadBack

@[expose] public section
set_option maxRecDepth 16384
noncomputable section
open Idealize.ShloMosaic Idealize.ShloMosaic.TcCoe Idealize.SL.Sem
namespace Cert.KernelIdeal.Value
open Cert.KernelIdeal Cert.KernelIdeal.Gen Cert.Pool

/-- A plane moved by one row, or left in place: row `r` of the result is row `r + a - 1`. -/
def rowMoved (x : FVec Ideal S128x128 .f32) : ℕ → FVec Ideal S128x128 .f32
  | 0 => concatenate S128x128 0 [⟨S1x128, broadcast S1x128 (Scalar.ofBits .f32 0x00000000#32)⟩,
      ⟨S127x128, extractStridedSlice S127x128 ![0, 0] x slices_S128x128_o0_0_S127x128⟩] concatenates_S1x128_S127x128_S128x128_d0
  | 1 => x
  | _ => concatenate S128x128 0 [⟨S127x128, extractStridedSlice S127x128 ![1, 0] x slices_S128x128_o1_0_S127x128⟩,
      ⟨S1x128, broadcast S1x128 (Scalar.ofBits .f32 0x00000000#32)⟩] concatenates_S127x128_S1x128_S128x128_d0

/-- A plane moved by one column, or left in place: column `q` of the result is column `q + b - 1`. -/
def colMoved (x : FVec Ideal S128x128 .f32) : ℕ → FVec Ideal S128x128 .f32
  | 0 => concatenate S128x128 1 [⟨S128x1, broadcast S128x1 (Scalar.ofBits .f32 0x00000000#32)⟩,
      ⟨S128x127, extractStridedSlice S128x127 ![0, 0] x slices_S128x128_o0_0_S128x127⟩] concatenates_S128x1_S128x127_S128x128_d1
  | 1 => x
  | _ => concatenate S128x128 1 [⟨S128x127, extractStridedSlice S128x127 ![0, 1] x slices_S128x128_o0_1_S128x127⟩,
      ⟨S128x1, broadcast S128x1 (Scalar.ofBits .f32 0x00000000#32)⟩] concatenates_S128x127_S128x1_S128x128_d1

/-- The weights of the neighbour `(a, b)`, over the whole plane. -/
def weightOf (d : FVec Ideal S128x128 .f32) (a b : ℕ) : FVec Ideal S128x128 .f32 :=
  exp (mulf (broadcast S128x128 (Scalar.ofBits .f32 0xC104CCCD#32)) (absf (subf d (colMoved (rowMoved d a) b))))

/-- One over the sum of the nine weights. -/
def inverse (d : FVec Ideal S128x128 .f32) : FVec Ideal S128x128 .f32 :=
  divf (broadcast S128x128 (Scalar.ofBits .f32 0x3F800000#32))
    (addf (addf (addf (addf (addf (addf (addf (addf (weightOf d 0 0) (weightOf d 0 1)) (weightOf d 0 2)) (weightOf d 1 0)) (weightOf d 1 1)) (weightOf d 1 2)) (weightOf d 2 0)) (weightOf d 2 1)) (weightOf d 2 2))

/-- What the scratch is given for the neighbour `(a, b)`. -/
def stored (d : FVec Ideal S128x128 .f32) (a b : ℕ) : FVec Ideal S1x128x128 .f32 :=
  shapeCast S1x128x128 (colMoved (mulf (weightOf d a b) (inverse d)) (2 - b)) shapeCasts_S128x128_S1x128x128

/-- A plane moved by a row reads the padded plane. -/
theorem rowMoved_at (x : FVec Ideal S128x128 .f32) (p : Fin 128 → Fin 128 → EReal) (hx : ∀ r q : Fin 128, x (ix2 r q) = p r q) (a : ℕ) (ha : a ≤ 2) (r q : Fin 128) :
    rowMoved x a (ix2 r q) = padded p (a + r) (1 + q) := by
  have hr := r.isLt
  have hq := q.isLt
  have key : ∀ (i : ℕ) (hi : 1 ≤ i) (hi' : i - 1 < 128), x (ix2 ⟨i - 1, hi'⟩ q) = padded p i (1 + q) := by
    intro i hi hi'
    rw [hx, padded, dif_pos ⟨⟨hi, hi'⟩, by omega, by omega⟩]
    exact congrArg (p _) (Fin.ext (by show (q : ℕ) = 1 + q - 1; omega))
  match a, ha with
  | 0, _ =>
    pointwise [rowMoved]
    by_cases h : (r : ℕ) < 1
    · rw [dif_pos h, padded, dif_neg (by omega)]
    · rw [dif_neg h]
      exact key r (by omega) (by omega)
  | 1, _ =>
    refine Eq.trans ?_ (key (1 + r) (by omega) (by omega))
    exact congrArg (fun k => x (ix2 k q)) (Fin.ext (by show (r : ℕ) = 1 + r - 1; omega))
  | 2, _ =>
    pointwise [rowMoved]
    by_cases h : (r : ℕ) < 127
    · rw [dif_pos h]
      refine Eq.trans ?_ (key (2 + r) (by omega) (by omega))
      exact congrArg (fun k => x (ix2 k q)) (Fin.ext (by show 1 + (r : ℕ) = 2 + r - 1; omega))
    · rw [dif_neg h, padded, dif_neg (by omega)]

/-- A plane moved by a column reads its neighbour, or zero past the edge. -/
theorem colMoved_at (x : FVec Ideal S128x128 .f32) (f : ℕ → ℕ → EReal) (hx : ∀ r q : Fin 128, x (ix2 r q) = f r q) (b : ℕ) (hb : b ≤ 2) (r q : Fin 128) :
    colMoved x b (ix2 r q) = if 1 ≤ b + q ∧ b + q - 1 < 128 then f r (b + q - 1) else 0 := by
  have hr := r.isLt
  have hq := q.isLt
  match b, hb with
  | 0, _ =>
    pointwise [colMoved]
    by_cases h : (q : ℕ) < 1
    · rw [dif_pos h, if_neg (by omega)]
    · rw [dif_neg h]
      exact (hx _ _).trans (if_pos (by omega)).symm
  | 1, _ =>
    rw [if_pos (by omega)]
    refine (hx r q).trans (congrArg (f r) ?_)
    omega
  | 2, _ =>
    pointwise [colMoved]
    by_cases h : (q : ℕ) < 127
    · rw [dif_pos h, if_pos (by omega), hx]
      exact congrArg (f r) (by show 1 + (q : ℕ) = 2 + q - 1; omega)
    · rw [dif_neg h, if_neg (by omega)]

section
variable (d : FVec Ideal S128x128 .f32) (p : Fin 128 → Fin 128 → EReal) (hd : ∀ r q : Fin 128, d (ix2 r q) = p r q)
include hd

/-- The kernel's weights are the weights of the mean. -/
theorem weightOf_at (a b : ℕ) (ha : a ≤ 2) (hb : b ≤ 2) (r q : Fin 128) : weightOf d a b (ix2 r q) = wt p r q a b := by
  have hr := r.isLt
  have hq := q.isLt
  have e0 : d (ix2 r q) = padded p (1 + r) (1 + q) := rowMoved_at d p hd 1 (by omega) r q
  have e1 : colMoved (rowMoved d a) b (ix2 r q) = padded p (a + r) (b + q) := by
    rw [colMoved_at (rowMoved d a) (fun i j => padded p (a + i) (1 + j)) (rowMoved_at d p hd a ha) b hb r q]
    by_cases h : 1 ≤ b + (q : ℕ) ∧ b + (q : ℕ) - 1 < 128
    · rw [if_pos h]
      exact congrArg (padded p _) (by omega)
    · rw [if_neg h, padded, dif_neg (by omega)]
  have e : weightOf d a b (ix2 r q) = decay (d (ix2 r q) - colMoved (rowMoved d a) b (ix2 r q)) := rfl
  rw [e, e0, e1, wt]

/-- The kernel's reciprocal is one over the total weight. -/
theorem inverse_at (r q : Fin 128) : inverse d (ix2 r q) = Ideal.div 1 (total p r q) := by
  have one : Ideal.ofBits .f32 0x3F800000#32 = 1 := by
    simp [Ideal.ofBits, Ideal.ieee]
    rw [← EReal.coe_mul]
    norm_num
  have e : inverse d (ix2 r q) = Ideal.div (Ideal.ofBits .f32 0x3F800000#32)
      (weightOf d 0 0 (ix2 r q) + weightOf d 0 1 (ix2 r q) + weightOf d 0 2 (ix2 r q) + weightOf d 1 0 (ix2 r q) + weightOf d 1 1 (ix2 r q) + weightOf d 1 2 (ix2 r q)
        + weightOf d 2 0 (ix2 r q) + weightOf d 2 1 (ix2 r q) + weightOf d 2 2 (ix2 r q)) := rfl
  rw [e, one]
  simp only [weightOf_at d p hd _ _ (by decide : (0 : ℕ) ≤ 2) (by decide : (0 : ℕ) ≤ 2), weightOf_at d p hd _ _ (by decide : (0 : ℕ) ≤ 2) (by decide : (1 : ℕ) ≤ 2), weightOf_at d p hd _ _ (by decide : (0 : ℕ) ≤ 2) (by decide : (2 : ℕ) ≤ 2),
    weightOf_at d p hd _ _ (by decide : (1 : ℕ) ≤ 2) (by decide : (0 : ℕ) ≤ 2), weightOf_at d p hd _ _ (by decide : (1 : ℕ) ≤ 2) (by decide : (1 : ℕ) ≤ 2), weightOf_at d p hd _ _ (by decide : (1 : ℕ) ≤ 2) (by decide : (2 : ℕ) ≤ 2),
    weightOf_at d p hd _ _ (by decide : (2 : ℕ) ≤ 2) (by decide : (0 : ℕ) ≤ 2), weightOf_at d p hd _ _ (by decide : (2 : ℕ) ≤ 2) (by decide : (1 : ℕ) ≤ 2), weightOf_at d p hd _ _ (by decide : (2 : ℕ) ≤ 2) (by decide : (2 : ℕ) ≤ 2), total]

/-- A plane of the scratch is a moved share of the weights. -/
theorem stored_at (a b : ℕ) (ha : a ≤ 2) (hb : b ≤ 2) (r q : Fin 128) : stored d a b (ix3 0 r q) = moved p a b r q := by
  have hq := q.isLt
  have e : ∀ v : FVec Ideal S128x128 .f32, shapeCast S1x128x128 v shapeCasts_S128x128_S1x128x128 (ix3 0 r q) = v (ix2 r q) := by
    intro v; pointwise
  have m : ∀ r q : Fin 128, mulf (weightOf d a b) (inverse d) (ix2 r q) = share p r q a b := by
    intro r q
    rw [share, ← weightOf_at d p hd a b ha hb r q, ← inverse_at d p hd r q]
    rfl
  rw [stored, e, colMoved_at _ (fun i j => share p i j a b) m (2 - b) (by omega) r q, moved]
  refine if_congr (by omega) ?_ rfl
  exact congrArg (fun j => share p r j a b) (by omega)

/-- The nine planes of the scratch, one for each neighbour. -/
def planes (y : S9x128x128.Idx) : EReal := moved p ((y 0 : ℕ) / 3) ((y 0 : ℕ) % 3) (y 1) (y 2)

/-- A store of one such plane is a block of the nine. -/
theorem plane_piece (k : ℕ) (hk : k < 9) (inb : ∀ i, (![k, 0, 0] : Fin 3 → ℕ) i + S1x128x128.size i ≤ S9x128x128.size i)
    (L : List (View.Piece (Elt Ideal) S9x128x128 .f32)) (hL : View.PiecesOf (planes p) L) :
    View.PiecesOf (planes p) (⟨Rect.unit (s := S9x128x128) ![k, 0, 0] S1x128x128.size inb, stored d (k / 3) (k % 3)⟩ :: L) := by
  refine ⟨fun y => ?_, hL⟩
  have ey : y = (ix3 0 (y 1 : Fin 128) (y 2 : Fin 128) : S1x128x128.Idx) := by
    funext i
    fin_cases i
    · exact Subsingleton.elim (α := Fin 1) _ _
    · rfl
    · rfl
  have e0 : ((Rect.unit (s := S9x128x128) ![k, 0, 0] S1x128x128.size inb).emb y 0 : ℕ) = k := by
    refine (Rect.idx_unit_val (s := S9x128x128) ![k, 0, 0] S1x128x128.size inb y 0).trans ?_
    show k + (y 0 : ℕ) = k
    have : (y 0 : ℕ) < 1 := (y 0).isLt
    omega
  have e1 : ((Rect.unit (s := S9x128x128) ![k, 0, 0] S1x128x128.size inb).emb y 1 : ℕ) = (y 1 : ℕ) :=
    (Rect.idx_unit_val (s := S9x128x128) ![k, 0, 0] S1x128x128.size inb y 1).trans (Nat.zero_add _)
  have e2 : ((Rect.unit (s := S9x128x128) ![k, 0, 0] S1x128x128.size inb).emb y 2 : ℕ) = (y 2 : ℕ) :=
    (Rect.idx_unit_val (s := S9x128x128) ![k, 0, 0] S1x128x128.size inb y 2).trans (Nat.zero_add _)
  have key := stored_at d p hd (k / 3) (k % 3) (by omega) (by omega) (y 1 : Fin 128) (y 2 : Fin 128)
  show stored d (k / 3) (k % 3) y = moved p _ _ _ _
  rw [e0, e1, e2, ← key]
  exact congrArg _ ey

end
end Cert.KernelIdeal.Value
end
-- ==== Proof.Held.lean ====
/- What the scratch holds after the first point of a row: the nine planes of weights of that row's depths. -/
module

public import proofs.«01_k».proof.Proof.Gen.KernelIdeal.Frame
public import proofs.«01_k».proof.Proof.Weights

@[expose] public section
set_option maxRecDepth 16384
noncomputable section
open Idealize.ShloMosaic Idealize.ShloMosaic.TcCoe Idealize.SL.Sem
namespace Cert.KernelIdeal.Value
open Cert.KernelIdeal Cert.KernelIdeal.Gen Cert.Pool

/-- The plane of depths of a block. -/
def depths (x0 : FVec Ideal S1x1x128x128 .f32) (r q : Fin 128) : EReal := x0 (ix4 0 0 r q)

/-- The nine stores into the scratch are the nine planes. -/
theorem stores_scratch (c : Dev nD) (arg2 : Memref sig .tc .vmem S1x1x128x128 .f32) (harg2 : arg2.IsWhole) (x0 : Vec Ideal S1x1x128x128 .f32) :
    View.PiecesOf (planes (depths x0)) (kernelRun0_A.sl.HS0_9 c arg2 harg2 x0) := by
  have hd : ∀ r q : Fin 128, k0_pay2 (F := Ideal) (View.readAt (Elt Ideal) arg2.view (Rect.unit ![0, 0, 0, 0] S1x1x128x128.size inb_S1x1x128x128_S1x1x128x128_0_0_0_0).toLoadRect (harg2.unread x0)) (ix2 r q) = depths x0 r q := by
    intro r q
    have e : ∀ v : FVec Ideal S1x1x128x128 .f32, k0_pay2 v (ix2 r q) = v (ix4 0 0 r q) := by
      intro v; pointwise [k0_pay2]
    rw [e]
    refine (congrFun (harg2.read_unread x0) _).trans (congrArg x0 (funext fun i => Fin.ext ?_))
    fin_cases i
    · rfl
    · rfl
    · simp
    · simp
  unfold kernelRun0_A.sl.HS0_9
  iterate 9 refine plane_piece _ _ hd _ (by decide) _ _ ?_
  exact trivial

/-- The scratch as the first point of a row leaves it. -/
theorem scratch_holds (c : Dev nD) (i : grid0.Coords) (arg2 : Memref sig .tc .vmem S1x1x128x128 .f32) (harg2 : arg2.IsWhole) (arg3 : Memref sig .tc .vmem S1x64x128x128 .f32) (harg3 : arg3.IsWhole) (arg4 : Memref sig .tc .vmem S1x64x128x128 .f32) (harg4 : arg4.IsWhole)
    (arg5 : Memref sig .tc .vmem S1x128x128x128 .f32) (harg5 : arg5.IsWhole) (arg6 : Memref sig .tc .vmem S9x128x128 .f32) (harg6 : arg6.IsWhole) (hc0 : cond0_0 i)
    (x0 : Vec Ideal S1x1x128x128 .f32) (x1 x2 : Vec Ideal S1x64x128x128 .f32) :
    View.canon (kernelRun0_A.sl.HS0_9 (F := Ideal) c arg2 harg2 x0) = planes (depths x0) := by
  funext y
  have hc : ∃ pc ∈ kernelRun0_A.sl.HS0_9 (F := Ideal) c arg2 harg2 x0, y ∈ pc.1.set :=
    scover0_A_0 c i arg2 harg2 arg3 harg3 arg4 harg4 arg5 harg5 arg6 harg6 hc0 x0 x1 x2 y
  exact View.canon_apply_of_pieces _ _ (stores_scratch c arg2 harg2 x0).mem y hc

/-- A point that fills the scratch leaves the nine planes of its depths in it. -/
theorem sout_holds (c : Dev nD) (i : grid0.Coords) (arg2 : Memref sig .tc .vmem S1x1x128x128 .f32) (harg2 : arg2.IsWhole) (arg3 : Memref sig .tc .vmem S1x64x128x128 .f32) (harg3 : arg3.IsWhole) (arg4 : Memref sig .tc .vmem S1x64x128x128 .f32) (harg4 : arg4.IsWhole)
    (arg5 : Memref sig .tc .vmem S1x128x128x128 .f32) (harg5 : arg5.IsWhole) (arg6 : Memref sig .tc .vmem S9x128x128 .f32) (harg6 : arg6.IsWhole) (hc0 : cond0_0 i)
    (x0 : Vec Ideal S1x1x128x128 .f32) (x1 x2 : Vec Ideal S1x64x128x128 .f32) :
    sout0_A_0 c i arg2 harg2 arg3 harg3 arg4 harg4 arg5 harg5 arg6 harg6 hc0 x0 x1 x2 = planes (depths x0) :=
  (View.read_writes_junk_eq_canon VS0_0 _).trans (scratch_holds c i arg2 harg2 arg3 harg3 arg4 harg4 arg5 harg5 arg6 harg6 hc0 x0 x1 x2)

end Cert.KernelIdeal.Value
end
-- ==== Proof.Point.lean ====
/- What one point leaves in its output block: the mean of the nine neighbours, at every element. -/
module

public import proofs.«01_k».proof.Proof.StoresA
public import proofs.«01_k».proof.Proof.StoresB
public import proofs.«01_k».proof.Proof.Held

@[expose] public section
set_option maxRecDepth 16384
noncomputable section
open Idealize.ShloMosaic Idealize.ShloMosaic.TcCoe Idealize.SL.Sem
namespace Cert.KernelIdeal.Value
open Cert.KernelIdeal Cert.KernelIdeal.Gen Cert.Pool

/-- With the nine planes in the scratch, what is stored is the mean, when the depths are real. -/
theorem filled_planes (p : Fin 128 → Fin 128 → EReal) (hp : ∀ r q, ∃ x : ℝ, p r q = x) (pl : ℕ → Fin 128 → Fin 128 → EReal) (y : S1x128x128x128.Idx) :
    filled (planes p) pl y = mean (pl (y 1)) p (y 2) (y 3) := by
  have h2 : (y 2).val < 128 := (y 2).isLt
  have h3 : (y 3).val < 128 := (y 3).isLt
  have e : ∀ a b q : ℕ, a < 3 → b < 3 → q < 128 → held (planes p) a b (y 2) q = moved p a b (y 2) q := by
    intro a b q ha hb hq
    show moved p (((3 * a + b) % 9) / 3) (((3 * a + b) % 9) % 3) ((y 2).val % 128) (q % 128) = _
    rw [show ((3 * a + b) % 9) / 3 = a by omega, show ((3 * a + b) % 9) % 3 = b by omega, Nat.mod_eq_of_lt h2, Nat.mod_eq_of_lt hq]
  have f : ∀ b q : ℕ, b < 3 → q < 128 → column (held (planes p)) (pl (y 1)) b (y 2) q = column (moved p) (pl (y 1)) b (y 2) q := by
    intro b q hb hq
    rw [column, column, e 0 b q (by omega) hb hq, e 1 b q (by omega) hb hq, e 2 b q (by omega) hb hq]
  rw [← turned_eq_mean hp (y 2) (y 3) h3, filled, turned, turned, f 0 _ (by omega) (by omega), f 1 _ (by omega) h3, f 2 _ (by omega) (by omega)]

section
variable (c : Dev nD) (i : grid0.Coords) (arg2 : Memref sig .tc .vmem S1x1x128x128 .f32) (harg2 : arg2.IsWhole) (arg3 : Memref sig .tc .vmem S1x64x128x128 .f32) (harg3 : arg3.IsWhole) (arg4 : Memref sig .tc .vmem S1x64x128x128 .f32) (harg4 : arg4.IsWhole)
    (arg5 : Memref sig .tc .vmem S1x128x128x128 .f32) (harg5 : arg5.IsWhole) (arg6 : Memref sig .tc .vmem S9x128x128 .f32) (harg6 : arg6.IsWhole)
    (x0 : Vec Ideal S1x1x128x128 .f32) (x1 x2 : Vec Ideal S1x64x128x128 .f32)

/-- The output block of a point that fills the scratch. -/
theorem out_A (hc0 : cond0_0 i) (hp : ∀ r q, ∃ x : ℝ, depths x0 r q = x) (y : S1x128x128x128.Idx) :
    out0_A_3 c i arg2 harg2 arg3 harg3 arg4 harg4 arg5 harg5 arg6 harg6 hc0 x0 x1 x2 y = mean (plane x1 x2 (y 1)) (depths x0) (y 2) (y 3) := by
  refine (congrFun (View.read_writes_junk_eq_canon VO0_3 _) y).trans ?_
  rw [View.canon_apply_of_pieces _ _ (stores_A c i arg2 harg2 arg3 harg3 arg4 harg4 arg5 harg5 arg6 harg6 hc0 x0 x1 x2).mem y
    (cover0_A_3 c i arg2 harg2 arg3 harg3 arg4 harg4 arg5 harg5 arg6 harg6 hc0 x0 x1 x2 y),
    scratch_holds c i arg2 harg2 arg3 harg3 arg4 harg4 arg5 harg5 arg6 harg6 hc0 x0 x1 x2]
  exact filled_planes _ hp _ y

/-- The output block of a point that finds the scratch filled with the weights of depths `p`. -/
theorem out_B (hc0 : ¬cond0_0 i) (p : Fin 128 → Fin 128 → EReal) (hp : ∀ r q, ∃ x : ℝ, p r q = x) (y : S1x128x128x128.Idx) :
    out0_B_3 c i arg2 harg2 arg3 harg3 arg4 harg4 arg5 harg5 arg6 harg6 hc0 x0 x1 x2 (planes p) y = mean (plane x1 x2 (y 1)) p (y 2) (y 3) := by
  refine (congrFun (View.read_writes_junk_eq_canon VO0_3 _) y).trans ?_
  rw [View.canon_apply_of_pieces _ _ (stores_B c i arg2 harg2 arg3 harg3 arg4 harg4 arg5 harg5 arg6 harg6 hc0 x0 x1 x2 (planes p)).mem y
    (cover0_B_3 c i arg2 harg2 arg3 harg3 arg4 harg4 arg5 harg5 arg6 harg6 hc0 x0 x1 x2 (planes p) y)]
  exact filled_planes _ hp _ y

end
end Cert.KernelIdeal.Value
end
-- ==== Proof.Blocks.lean ====
/- Which elements of the arrays each point's blocks hold. -/
module

public import proofs.«01_k».proof.Proof.Gen.KernelIdeal.Frame
public import proofs.«01_k».proof.Proof.Held
public import proofs.«01_k».proof.Proof.Tile

@[expose] public section
set_option maxRecDepth 16384
noncomputable section
open Idealize.ShloMosaic Idealize.ShloMosaic.TcCoe Idealize.SL.Sem
namespace Cert.KernelIdeal.Value
open Cert.KernelIdeal Cert.KernelIdeal.Gen Cert.Pool

/-- The block that each window is at: two points to a batch, the lower and then the upper half of the channels. -/
theorem index_at : ∀ t : Fin cfg0.N, win0_0.index t = ![t.val / 2, 0, 0, 0] ∧ win0_1.index t = ![t.val / 2, 2 * (t.val % 2), 0, 0]
    ∧ win0_2.index t = ![t.val / 2, 2 * (t.val % 2) + 1, 0, 0] ∧ win0_3.index t = ![t.val / 2, t.val % 2, 0, 0] :=
  (by decide +kernel : ∀ t : Fin grid0.N, _)

variable (m : (ℓ : Loc nD τ sig) → Buf (Elt Ideal) ℓ) (c : Dev nD)

/-- A batch's plane of depths. -/
def depthPlane (b : Fin 16) (r q : Fin 128) : EReal := (m ((c : Thread nD τ).loc main_arg1) : S16x1x128x128.Idx → EReal) (ix4 b 0 r q)

/-- A channel's plane of the image. -/
def imagePlane (b : Fin 16) (k : Fin 256) (r q : Fin 128) : EReal := (m ((c : Thread nD τ).loc main_arg0) : S16x256x128x128.Idx → EReal) (ix4 b k r q)

/-- A point belongs to one of sixteen batches. -/
theorem batch_lt (t : Fin cfg0.N) : t.val / 2 < 16 := by
  have h : t.val < 32 := lt_of_lt_of_eq t.isLt N_0
  omega

/-- The batch of a point. -/
def batch (t : Fin cfg0.N) : Fin 16 := ⟨t.val / 2, batch_lt t⟩

/-- The depth block of a point is the depth plane of its batch. -/
theorem depths_at (t : Fin cfg0.N) : depths (iblk m c 0 t) = depthPlane m c (batch t) := by
  funext r q
  obtain ⟨e, -, -, -⟩ := index_at t
  refine congrArg (m ((c : Thread nD τ).loc main_arg1)) (funext fun i => Fin.ext ?_)
  have h : ∀ i : Fin 4, (((cfg0.win 0).blk t).view.emb (ix4 0 0 r q : S1x1x128x128.Idx) i).val = win0_0.index t i * S1x1x128x128.size i + 1 * ((ix4 0 0 r q : S1x1x128x128.Idx) i).val := fun i => rfl
  refine (h i).trans ?_
  rw [e]
  fin_cases i <;> simp [batch]

/-- Channel `k` of the two image blocks of a point is a channel of its batch, of the half that the point serves. -/
theorem plane_at (t : Fin cfg0.N) (k : ℕ) (hk : k < 128) :
    plane (iblk m c 1 t) (iblk m c 2 t) k = imagePlane m c (batch t) ⟨t.val % 2 * 128 + k, by omega⟩ := by
  funext r q
  obtain ⟨-, e1, e2, -⟩ := index_at t
  rw [plane]
  by_cases hk' : k < 64
  · rw [if_pos hk']
    refine congrArg (m ((c : Thread nD τ).loc main_arg0)) (funext fun i => Fin.ext ?_)
    have h : ∀ (z : S1x64x128x128.Idx) (i : Fin 4), (((cfg0.win 1).blk t).view.emb z i).val = win0_1.index t i * S1x64x128x128.size i + 1 * (z i).val := fun z i => rfl
    refine (h _ i).trans ?_
    rw [e1]
    fin_cases i
    · simp [batch]
    · simp; omega
    · simp
    · simp
  · rw [if_neg hk']
    refine congrArg (m ((c : Thread nD τ).loc main_arg0)) (funext fun i => Fin.ext ?_)
    have h : ∀ (z : S1x64x128x128.Idx) (i : Fin 4), (((cfg0.win 2).blk t).view.emb z i).val = win0_2.index t i * S1x64x128x128.size i + 1 * (z i).val := fun z i => rfl
    refine (h _ i).trans ?_
    rw [e2]
    fin_cases i
    · simp [batch]
    · simp; omega
    · simp
    · simp

/-- The place in the array of an element of the block a point writes back. -/
theorem place (t : Fin cfg0.N) (y : S1x128x128x128.Idx) :
    (((cfg0.win 3).blk t).view.emb y : S16x256x128x128.Idx) =
      ix4 (batch t) ⟨t.val % 2 * 128 + (y 1).val, by have h : (y 1).val < 128 := (y 1).isLt; omega⟩ (y 2 : Fin 128) (y 3 : Fin 128) := by
  obtain ⟨-, -, -, e⟩ := index_at t
  refine funext fun i => Fin.ext ?_
  have h : ∀ (z : S1x128x128x128.Idx) (i : Fin 4), (((cfg0.win 3).blk t).view.emb z i).val = win0_3.index t i * S1x128x128x128.size i + 1 * (z i).val := fun z i => rfl
  refine (h y i).trans ?_
  rw [e]
  have h0 : (y 0).val < 1 := (y 0).isLt
  fin_cases i
  · simp [batch]
  · simp
  · simp
  · simp

end Cert.KernelIdeal.Value
end
-- ==== Proof.Final.lean ====
/- What the result array holds after the run. -/
module

public import proofs.«01_k».proof.Proof.Gen.KernelIdeal.Value
public import proofs.«01_k».proof.Proof.Point
public import proofs.«01_k».proof.Proof.Blocks
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Pool

variable (m : (ℓ : Loc nD τ sig) → Buf (Elt Ideal) ℓ) (c : Dev nD)

/-- The means of every channel's plane, weighed by its batch's depths. -/
def meansOf (j : S16x256x128x128.Idx) : EReal := mean (imagePlane m c (j 0) (j 1)) (depthPlane m c (j 0)) (j 2) (j 3)

/-- At the second point of a batch the scratch holds the planes of that batch's depths. -/
theorem carried (t : Fin cfg0.N) (h : ¬t.val % 2 = 0) (hb : t.val - 1 < cfg0.N) : (outsAt0 m c (t.val - 1) hb).2 = planes (depthPlane m c (batch t)) := by
  have e := outsAt0_A m c ⟨t.val - 1, hb⟩ (by show (t.val - 1) % 2 = 0; omega)
  rw [sout_holds, depths_at m c ⟨t.val - 1, hb⟩] at e
  refine (congrArg Prod.snd e).trans ?_
  exact congrArg (fun b => planes (depthPlane m c b)) (Fin.ext (by show (t.val - 1) / 2 = t.val / 2; omega))

/-- Every point writes back the means of its half of a batch's channels. -/
theorem block_at (hp : ∀ b r q, ∃ x : ℝ, depthPlane m c b r q = x) (t : Fin cfg0.N) (y : S1x128x128x128.Idx) :
    (outsAt0 m c t.val t.isLt).1 y = meansOf m c (((cfg0.win 3).blk t).view.emb y) := by
  have h1 : (y 1).val < 128 := (y 1).isLt
  rw [place t y]
  show _ = mean (imagePlane m c (batch t) ⟨t.val % 2 * 128 + (y 1).val, _⟩) (depthPlane m c (batch t)) (y 2) (y 3)
  rw [← plane_at m c t (y 1).val h1]
  by_cases h : t.val % 2 = 0
  · rw [outsAt0_A m c t h]
    dsimp only
    rw [out_A (hp := fun r q => by rw [depths_at m c t]; exact hp _ r q), depths_at m c t]
  · rw [outsAt0_B m c t h]
    dsimp only
    rw [carried m c t h, out_B (hp := hp _)]

/-- The result array after the run. -/
theorem final (hp : ∀ b r q, ∃ x : ℝ, depthPlane m c b r q = x) : (dats m 0 c).arrAt 3 cfg0.N = meansOf m c := by
  refine (dats m 0 c).arrAt_eq_of_covers 3 _ (by decide +kernel) fun t hf y => ?_
  blk_simp
  rw [after0_3]
  exact block_at m c hp t y

end Cert.KernelIdeal.Value
end
-- ==== Proof.Finite.lean ====
/- The precondition read: every depth is a real number. -/
module

public import proofs.«01_k».proof.Defs
public import Idealize.ShloMosaic.Lib.Pipeline.ValueKit

@[expose] public section
noncomputable section
open Idealize.ShloMosaic
namespace Cert.Pool

/-- The side condition the precondition's text states. -/
theorem pre_facts : Cert.Pre_depth_finite.Facts where
  bcast_S_S16x1x128x128 := by decide

/-- An extended real whose distance from zero is under infinity is a real number. -/
theorem real_of_abs_lt (x : EReal) (h : max x (-x) < ⊤) : ∃ r : ℝ, x = r := by
  induction x with
  | bot => simp at h
  | top => simp at h
  | coe r => exact ⟨r, rfl⟩

/-- Where the precondition holds, every depth is real. -/
theorem real_of_pre [Cert.Pre_depth_finite.Facts] (A : FVec Ideal Cert.Pre_depth_finite.S16x256x128x128 .f32) (D : FVec Ideal Cert.Pre_depth_finite.S16x1x128x128 .f32)
    (h : Cert.Pre_depth_finite.fn (F := Ideal) A D = fun _ => 1#1) (i : Cert.Pre_depth_finite.S16x1x128x128.Idx) : ∃ r : ℝ, D i = r := by
  have e := congrFun h i
  have inf : Ideal.ofBits .f32 0x7F800000#32 = ⊤ := by simp [Ideal.ofBits, Ideal.ieee]
  refine real_of_abs_lt _ ?_
  rw [← inf]
  by_contra hn
  pointwise [Cert.Pre_depth_finite.fn] at e
  rw [decide_eq_false (show ¬FloatOps.absf (F := Ideal) (φ := .f32) (D i) < Ideal.ofBits .f32 0x7F800000#32 from hn)] at e
  exact absurd e (by decide)
end Cert.Pool
end
-- ==== Proof.RefVal.lean ====
/- What the reference computes: the array of weighted means. -/
module

public import proofs.«01_k».proof.Proof.Gen.ReferenceIdeal.Run
public import proofs.«01_k».proof.Proof.Pool
public import Idealize.ShloMosaic.Lib.Tactic.CleanTypes

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Pool
variable (m : (ℓ : Loc nD τ sig) → Buf (Elt Ideal) ℓ)

/-- The padding value, an integer zero made a float, is zero. -/
theorem sitofp_zero : FloatOps.sitofp (F := Ideal) FTy.f32 0#32 = (0 : EReal) := by
  show (((0#32 : BitVec 32).toInt : ℝ) : EReal) = 0
  simp

/-- A shifted slice of the padded depths reads the padded depth plane of its batch. -/
theorem slice_depth (X : FVec Ideal S16x1x128x128 .f32) (a b : ℕ) (h : S16x1x130x130.Slices ![0, 0, a, b] S16x1x128x128) (j : S16x1x128x128.Idx) :
    extractStridedSlice S16x1x128x128 ![0, 0, a, b] (pad S16x1x130x130 ![0, 0, 1, 1] ![0, 0, 1, 1] ![0, 0, 0, 0] X
        (sitofp .f32 (constantI S_ 32 0#32)) pads_S16x1x128x128_S16x1x130x130_000_000_110_110 h_S_) h j
      = padded (fun r q => X (ix4 (j 0) 0 r q)) (a + j 2) (b + j 3) := by
  pointwise [padded]
  rw [sitofp_zero]

/-- A shifted slice of the padded images reads the padded plane of its batch and channel. -/
theorem slice_image (X : FVec Ideal S16x256x128x128 .f32) (a b : ℕ) (h : S16x256x130x130.Slices ![0, 0, a, b] S16x256x128x128) (j : S16x256x128x128.Idx) :
    extractStridedSlice S16x256x128x128 ![0, 0, a, b] (pad S16x256x130x130 ![0, 0, 1, 1] ![0, 0, 1, 1] ![0, 0, 0, 0] X
        (sitofp .f32 (constantI S_ 32 0#32)) pads_S16x256x128x128_S16x256x130x130_000_000_110_110 h_S_) h j
      = padded (fun r q => X (ix4 (j 0) (j 1) r q)) (a + j 2) (b + j 3) := by
  pointwise [padded]
  rw [sitofp_zero]

/-- The array of weighted means of the images `A` at the depths `D`. -/
def means (A : FVec Ideal S16x256x128x128 .f32) (D : FVec Ideal S16x1x128x128 .f32) : FVec Ideal S16x256x128x128 .f32 :=
  fun j => mean (fun r q => A (ix4 (j 0) (j 1) r q)) (fun r q => D (ix4 (j 0) 0 r q)) (j 2) (j 3)

/-- The reference's result is the array of means. -/
theorem result (c : Dev nD) : res_out0 (F := Ideal) m c = means (m (c.tc.loc main_arg0)) (m (c.tc.loc main_arg1)) := by
  unfold res_out0 res_main_v105
  generalize (m (c.tc.loc main_arg0)) = A
  generalize (m (c.tc.loc main_arg1)) = D
  clean_types
  funext j
  pointwise [slice_depth, slice_image]
  simp only [means, mean, total, wt, decay, Nat.zero_add]
end Cert.ReferenceIdeal.Value
end
-- ==== Proof.lean ====
/- The claims, assembled: the frames from each program's run; the equation from what the kernel's array holds after its run
   (Proof/Final.lean) and what the reference computes (Proof/RefVal.lean). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Final
public import proofs.«01_k».proof.Proof.Finite
public import proofs.«01_k».proof.Proof.RefVal
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments and has no semaphore to leave raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same means, when every depth is finite. -/
theorem equation : @algebraic_KernelIdeal_ReferenceIdeal_pre_depth_finite Cert.KernelIdeal.Gen.facts Cert.ReferenceIdeal.Gen.facts Cert.Pool.pre_facts := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Value.final m c fun b r q => @Cert.Pool.real_of_pre Cert.Pool.pre_facts _ _ (hpre c) (ix4 b 0 r q)]
  refine (Cert.ReferenceIdeal.Value.result m' c).trans ?_
  rw [(hagree c).1, (hagree c).2]
  rfl

theorem claim : Cert.Claim := ⟨Cert.Kernel.Gen.facts, Cert.KernelIdeal.Gen.facts, Cert.ReferenceIdeal.Gen.facts, Cert.Pool.pre_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), equation⟩

end Cert.Proof

end
